-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S2048x1024 : Shape := ⟨2, ![2048, 1024]⟩
abbrev S3 : Shape := ⟨1, ![3]⟩
abbrev S_ : Shape := ⟨0, ![]⟩
abbrev S1 : Shape := ⟨1, ![1]⟩

abbrev nBuf : Space → Nat
  | .hbm => 3
  | .vmem => 3
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S32768x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => false
  | ⟨1, _⟩ => true
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 2 5 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v17 : BitVec 32 := Scalar.muli v9 c16_i32_8
  let v18 : BitVec 32 := Scalar.addi c0_i32_9 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k0_dev3 (d0 : Dev nD) : Nat :=
  let c0_i32_387_r0 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_386_r0 : BitVec 32 := 16#32
  let v446_r0 : BitVec 32 := Scalar.muli v9 c16_i32_386_r0
  let v447_r0 : BitVec 32 := Scalar.addi c0_i32_387_r0 v446_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_388_r0 : BitVec 32 := 4#32
  let v448_r0 : BitVec 32 := Scalar.muli v5 c4_i32_388_r0
  let v449_r0 : BitVec 32 := Scalar.addi v447_r0 v448_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389_r0 : BitVec 32 := 1#32
  let v450_r0 : BitVec 32 := Scalar.muli v8 c1_i32_389_r0
  let v451_r0 : BitVec 32 := Scalar.addi v449_r0 v450_r0
  v451_r0.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S2x32768x1024, .bf16⟩
  | .hbm, ⟨2, _⟩ => ⟨S2x32768x1024, .f32⟩
  | .hbm, ⟨3, _⟩ => ⟨S_, .f32⟩
  | .hbm, ⟨4, _⟩ => ⟨S32768x1024, .f32⟩
  | .hbm, ⟨5, _⟩ => ⟨S32768x1024, .bf16⟩
  | .hbm, ⟨6, _⟩ => ⟨S32768x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Protocol.lean ====
/-
# The exchange between the two halves of the mesh: cells, payloads and levels

The 32 devices form 16 pairs: a device and its peer differ only in the first mesh coordinate. Each device
keeps four semaphores its peer touches:

* the runtime's barrier semaphore, raised by one by the peer on entry. The peer's signal hands over the peer's
  landing buffer, so that the device may copy into it;
* the send semaphore, raised by the device's own remote copy once its input has been read: the input comes back;
* the receive semaphore, raised by the peer's remote copy once it has landed: the landing buffer comes back
  holding the peer's input;
* the exit semaphore, raised by one by the peer at the very end, with nothing to hand over.

Each cell has one round with one duty. The levels put the barrier below the receive cell and the receive cell below the
exit cell, so no wait waits for something owed behind it; the local copies and the send cell are at the bottom.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.PairSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the launch's copy, the pairs' rounds, the local copies' counters -/

abbrev UB : Type := URounds (GSem nD τ sig) Unit
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
/-- The pairs' rounds within the machine's algebra. -/
def ER : Emb UB (MT nD τ sig Unit (Elt F) ℕ UU ℕ) := (Emb.inl : Emb UB UC).trans embR
/-- The local copies' counters within it. -/
abbrev EC : UEmb Counters (MT nD τ sig Unit (Elt F) ℕ UU ℕ) := countersEmb

instance ER_landsIn : (ER (F := F)).LandsIn (upEmb : UEmb _ 𝕄) := by unfold ER embR; infer_instance

variable (m : (ℓ : Loc nD τ sig) → Buf (Elt F) ℓ) (ρ : Dev nD → PrngReg)

/-! ## The pairs -/

/-- The device with the other first mesh coordinate. -/
def peer (c : Dev nD) : Dev nD := ⟨(c.val + 16) % 32, Nat.mod_lt _ (by decide)⟩

theorem peer_peer (c : Dev nD) : peer (peer c) = c := by revert c; decide

theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))

/-- Going to the peer, as a bijection of the devices. -/
def swap : Dev nD ≃ Dev nD := ⟨peer, peer, peer_peer, peer_peer⟩

/-! ## The buffers -/

abbrev xM : Memref sig .tc .hbm S32768x1024 .bf16 := Memref.whole main_arg0
abbrev oM : Memref sig .tc .hbm S32768x1024 .f32 := Memref.whole main_v1_0
abbrev rM : Memref sig .tc .hbm S32768x1024 .bf16 := Memref.whole main_v1_1
abbrev aM : Memref sig .tc .vmem S2048x1024 .bf16 := Memref.whole cc0_scratch0
abbrev bM : Memref sig .tc .vmem S2048x1024 .bf16 := Memref.whole cc0_scratch1
abbrev sM : Memref sig .tc .vmem S2048x1024 .f32 := Memref.whole cc0_scratch2

/-- A whole buffer of device `c`'s, held at the full share with contents `f`. -/
abbrev held (c : Dev nD) (b : Ref sig .tc) (f : Buf (Elt F) ((c : Thread nD τ).loc b)) : sProp 𝕄 :=
  iprop(((c : Thread nD τ).loc b) ↦{fullShare} f)

/-- Device `c`'s input as launched. -/
def xAt (c : Dev nD) : Buf (Elt F) ((c : Thread nD τ).loc main_arg0) := m ((c : Thread nD τ).loc main_arg0)
/-- What lands in device `c`'s landing buffer: its peer's input. -/
def landed (c : Dev nD) : Buf (Elt F) ((c : Thread nD τ).loc main_v1_1) := xAt m (peer c)

/-! ## The cells -/

abbrev barS : Sem sig := (SemArray.scalar (sig.barrier 0 rfl) : Sems sig S_).sem
abbrev exitS : Sem sig := (cc0_scoped0 : Sems sig S_).sem
abbrev sendS : DmaSem sig := (cc0_scratch4 : DmaSems sig S_).sem
abbrev recvS : DmaSem sig := (cc0_scratch5 : DmaSems sig S_).sem
/-- The three semaphores of the local copies: input rows in, landed rows in, result rows out. -/
abbrev inS : DmaSem sig := ((cc0_scratch3.slice (Rect.unit (s := S3) ![0] S1.size inb_S3_S1_0)).squeeze S_ squeezes_S1_S_).sem
abbrev in2S : DmaSem sig := ((cc0_scratch3.slice (Rect.unit (s := S3) ![1] S1.size inb_S3_S1_1)).squeeze S_ squeezes_S1_S_).sem
abbrev outS : DmaSem sig := ((cc0_scratch3.slice (Rect.unit (s := S3) ![2] S1.size inb_S3_S1_2)).squeeze S_ squeezes_S1_S_).sem

abbrev barCell (c : Dev nD) : GSem nD τ sig := ((c : Thread nD τ), .reg barS)
abbrev exitCell (c : Dev nD) : GSem nD τ sig := ((c : Thread nD τ), .reg exitS)
abbrev sendCell (c : Dev nD) : GSem nD τ sig := ((c : Thread nD τ), .dma sendS)
abbrev recvCell (c : Dev nD) : GSem nD τ sig := ((c : Thread nD τ), .dma recvS)

/-- The four shared cells of a device by number. -/
abbrev csem : Fin 4 → SemLoc sig := fun | 0 => .reg barS | 1 => .reg exitS | 2 => .dma sendS | 3 => .dma recvS
abbrev kcell (ck : Dev nD × Fin 4) : GSem nD τ sig := ((ck.1 : Thread nD τ), csem ck.2)

/-- The kernel's own semaphores: the exit semaphore, the three local ones, the send and the receive semaphore. -/
abbrev osem : Fin 6 → SemLoc sig :=
  fun | 0 => .reg exitS | 1 => .dma inS | 2 => .dma in2S | 3 => .dma outS | 4 => .dma sendS | 5 => .dma recvS

theorem csem_injective : Function.Injective csem := by decide

theorem kcell_injective : Function.Injective (kcell : Dev nD × Fin 4 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The units a whole input's copy is worth. -/
abbrev N : ℕ := (rM : Memref sig .tc .hbm S32768x1024 .bf16).view.dmaCredit
theorem N_pos : 0 < N := View.dmaCredit_pos _ (by decide)

/-! ## The schedule -/

/-- What the peer's entry signal hands device `c`: the peer's landing buffer. -/
def barPay (c : Dev nD) : sProp 𝕄 := iprop(∃ f, held (peer c) main_v1_1 f)

/-- The payload of a device's cell, by the semaphore. -/
def pay (c : Dev nD) (sm : SemLoc sig) : sProp 𝕄 :=
  if sm = .reg barS then barPay c
  else if sm = .dma sendS then held c main_arg0 (xAt m c)
  else if sm = .dma recvS then held c main_v1_1 (landed m c)
  else iprop(emp)

/-- One round, one duty for every shared cell; signals are worth one unit, copies `N`. -/
def rd : Rounds.Schedule (GSem nD τ sig) Unit 𝕄 where
  duties g r := if r = 0 ∧ g.1.2 = .tc ∧ ∃ k, g.2 = csem k then {()} else ∅
  unitless _ := False
  amount g _ _ := if g.2 = .reg barS ∨ g.2 = .reg exitS then 1 else N
  payload g _ _ := pay m g.1.1 g.2
  amount_pos g _ _ _ := by
    split
    · exact Nat.one_pos
    · exact N_pos

instance rd_payload_storable (g : GSem nD τ sig) (r : ℕ) (d : Unit) :
    BI.Storable (upEmb : UEmb _ 𝕄) ((rd (F := F) m).payload g r d) := by
  show BI.Storable upEmb (pay m g.1.1 g.2)
  unfold pay barPay
  (repeat' split) <;> infer_instance

variable (c : Dev nD)

theorem duties_cell (k : Fin 4) : (rd (F := F) m).duties (kcell (c, k)) 0 = {()} := by
  dsimp only [rd]; exact if_pos ⟨rfl, rfl, k, rfl⟩
theorem duties_later (g : GSem nD τ sig) : ∀ r, 1 ≤ r → (rd (F := F) m).duties g r = ∅ :=
  fun r hr => by dsimp only [rd]; exact if_neg fun h => by omega
theorem mem_duties (k : Fin 4) : () ∈ (rd (F := F) m).duties (kcell (c, k)) 0 := by
  rw [duties_cell]; exact Finset.mem_singleton_self _

/-- The amount a cell's one duty is worth. -/
def amt (k : Fin 4) : ℕ := if csem k = .reg barS ∨ csem k = .reg exitS then 1 else N

theorem amount_cell (k : Fin 4) : (rd (F := F) m).amount (kcell (c, k)) 0 () = amt k := rfl
theorem expect_cell (k : Fin 4) : (rd (F := F) m).expect (kcell (c, k)) 0 = amt k := by
  unfold Rounds.Schedule.expect Rounds.Schedule.amountOf
  rw [duties_cell, Finset.sum_singleton]; rfl
theorem payload_cell (k : Fin 4) : (rd (F := F) m).payload (kcell (c, k)) 0 () = pay m c (csem k) := rfl
theorem rest_cell (k : Fin 4) :
    bigSep ((rd (F := F) m).duties (kcell (c, k)) 0 \ ∅) (fun d => (rd (F := F) m).payload (kcell (c, k)) 0 d) = pay m c (csem k) := by
  rw [duties_cell, Finset.sdiff_empty, bigSep_singleton]; rfl

theorem amt_bar : amt 0 = 1 := by decide
theorem amt_exit : amt 1 = 1 := by decide
theorem amt_send : amt 2 = N := if_neg (by decide)
theorem amt_recv : amt 3 = N := if_neg (by decide)

theorem pay_bar : (pay m c (csem 0) : sProp 𝕄) = barPay c := if_pos rfl
theorem pay_exit : (pay m c (csem 1) : sProp 𝕄) = iprop(emp) := by
  unfold pay; rw [if_neg (by decide), if_neg (by decide), if_neg (by decide)]
theorem pay_send : (pay m c (csem 2) : sProp 𝕄) = held c main_arg0 (xAt m c) := by
  unfold pay; rw [if_neg (by decide), if_pos rfl]
theorem pay_recv : (pay m c (csem 3) : sProp 𝕄) = held c main_v1_1 (landed m c) := by
  unfold pay; rw [if_neg (by decide), if_neg (by decide), if_pos rfl]

/-! ## What is owed, and the levels -/

/-- Owed once both entry signal and remote copy are under way: the exit signal. -/
def O₂ : CellTallies nD τ sig Unit := tallyAt (exitCell (peer c)) () 1
/-- Owed after the entry signal. -/
def O₁ : CellTallies nD τ sig Unit := O₂ c + tallyAt (recvCell (peer c)) () N
/-- Owed at launch. -/
def O₀ : CellTallies nD τ sig Unit := O₁ c + tallyAt (barCell (peer c)) () 1

def L (g : GSem nD τ sig) : Finset Unit := if g.1.2 = .tc then {()} else ∅
/-- Barrier cells at 1, receive cells at 2, exit cells at 3, the rest at 0. -/
def lvS (sm : SemLoc sig) : ℕ := if sm = .reg barS then 1 else if sm = .dma recvS then 2 else if sm = .reg exitS then 3 else 0
def lv (g : GSem nD τ sig) (_ : Unit) : ℕ := lvS g.2

theorem lvS_bar : lvS (.reg barS) = 1 := by decide
theorem lvS_recv : lvS (.dma recvS) = 2 := by decide
theorem lvS_exit : lvS (.reg exitS) = 3 := by decide

theorem L_of_ne (g : GSem nD τ sig) (h : g.1.2 ≠ .tc) : L g = ∅ := if_neg h
theorem L_tc (sm : SemLoc sig) : L ((c : Thread nD τ), sm) = {()} := if_pos rfl

/-- A device may wait at a cell when everything it owes is owed to TensorCore cells at higher levels. -/
theorem mayWait_of (sm : SemLoc sig) (O : CellTallies nD τ sig Unit)
    (h : ∀ g u, 0 < O g u → g.1.2 = .tc ∧ lvS sm < lvS g.2) : (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem O₂_pos {g : GSem nD τ sig} {u : Unit} (h : 0 < O₂ c g u) : g = exitCell (peer c) := by
  unfold O₂ at h; rw [tallyAt_apply] at h
  by_contra hn
  rw [if_neg (fun h' => hn h'.1)] at h; exact Nat.lt_irrefl 0 h
theorem O₁_pos {g : GSem nD τ sig} {u : Unit} (h : 0 < O₁ c g u) : g = exitCell (peer c) ∨ g = recvCell (peer c) := by
  unfold O₁ at h; rw [Pi.add_apply, Finsupp.add_apply, tallyAt_apply] at h
  by_contra hn
  rw [not_or] at hn
  rw [if_neg (fun h' => hn.2 h'.1), Nat.add_zero] at h; exact hn.1 (O₂_pos c h)

/-- Waiting below the exit cells while only the exit signal is owed. -/
theorem mayWait_two (sm : SemLoc sig) (h : lvS sm < 3) : (levAts L lv : sProp 𝕄) ⊢ MayWait (c : Thread nD τ) sm () (O₂ c) :=
  mayWait_of c sm _ fun g u hg => by
    rw [O₂_pos c hg]; exact ⟨rfl, Nat.lt_of_lt_of_eq h lvS_exit.symm⟩
/-- Waiting at the barrier while the remote copy and the exit signal are owed. -/
theorem mayWait_bar : (levAts L lv : sProp 𝕄) ⊢ MayWait (c : Thread nD τ) (.reg barS) () (O₁ c) :=
  mayWait_of c _ _ fun g u hg => by
    rcases O₁_pos c hg with rfl | rfl
    · exact ⟨rfl, by rw [lvS_bar, lvS_exit]; decide⟩
    · exact ⟨rfl, by rw [lvS_bar, lvS_recv]; decide⟩

end Cert.PairSum

end
-- ==== Proof.Chunk.lean ====
/-
# One chunk of the sum

The second half of the body goes through the 32768 rows in 16 chunks of 2048: it copies the chunk's rows of the input and
of the landing buffer into two scratch buffers, adds them as `f32` into a third, and copies that to the chunk's
rows of the result. `wp_chunk` states this once, for the chunk that starts at any row `o`: the rows of the result below
`o` being the sum, afterwards the rows below `o + 2048` are.
-/
module

public import proofs.«01_k».proof.Proof.Protocol
public import Idealize.ShloMosaic.Lib.Pointwise.Reshape

@[expose] public section

noncomputable section

namespace Cert.PairSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The variants of the launch: the body has no loop that needs one. -/
abbrev 𝒱₀ : Variants := Variants.none

/-- The element of the sum at an index: the device's own input and its peer's, each widened, added. -/
def total (i : S32768x1024.Idx) : F .f32 :=
  addf (extf .f32 (xAt m c : FVec F S32768x1024 .bf16) bitsLt_bf16_f32) (extf .f32 (landed m c : FVec F S32768x1024 .bf16) bitsLt_bf16_f32) i

/-- The result holds the sum in its rows below `o`. -/
def UpTo (o : ℕ) (f : Buf (Elt F) ((c : Thread nD τ).loc main_v1_0)) : Prop :=
  ∀ i : S32768x1024.Idx, (i (0 : Fin 2)).val < o → (f : S32768x1024.Idx → F .f32) i = total m c i

/-- The rows `o` to `o + 2047`, all columns. -/
abbrev rows (o : ℕ) (h : ∀ a, (![o, 0] : Fin 2 → ℕ) a + S2048x1024.size a ≤ S32768x1024.size a) : Rect S32768x1024 :=
  Rect.unit (s := S32768x1024) ![o, 0] S2048x1024.size h

/-- Writing a chunk of the sum over its rows of the result extends the rows that hold the sum. -/
theorem upTo_write {o : ℕ} (h : ∀ a, (![o, 0] : Fin 2 → ℕ) a + S2048x1024.size a ≤ S32768x1024.size a)
    {f : Buf (Elt F) ((c : Thread nD τ).loc main_v1_0)} (hf : UpTo m c o f) (w : S2048x1024.Idx → F .f32)
    (hw : ∀ x : S2048x1024.Idx, w x = total m c ((rows o h).emb x)) :
    UpTo m c (o + 2048) ((oM.slice (rows o h) (fun _ => rfl)).view.write (Elt F) f w Finset.univ) := by
  intro i hi
  by_cases ho : (i (0 : Fin 2)).val < o
  · rw [View.write_of_not_mem]
    · exact hf i ho
    · rw [View.setOn_univ]
      intro hm
      obtain ⟨x, -, hx⟩ := Finset.mem_map.mp hm
      have h0 : (i (0 : Fin 2)).val = o + 1 * (x (0 : Fin 2)).val := by rw [← hx]; rfl
      omega
  · have h1 : (i (1 : Fin 2)).val < 1024 := (i (1 : Fin 2)).isLt
    obtain ⟨x, rfl⟩ : ∃ x, (rows o h).emb x = i := by
      refine ⟨Fin.cons ⟨(i (0 : Fin 2)).val - o, by show _ < 2048; omega⟩ (Fin.cons ⟨(i (1 : Fin 2)).val, h1⟩ finZeroElim), funext fun a => Fin.ext ?_⟩
      fin_cases a
      · show o + 1 * ((i (0 : Fin 2)).val - o) = (i (0 : Fin 2)).val; omega
      · show 0 + 1 * (i (1 : Fin 2)).val = (i (1 : Fin 2)).val; omega
    have h2 := View.write_emb_of_mem (v := (oM.slice (rows o h) (fun _ => rfl)).view) (Val := Elt F) f w (Finset.mem_univ x)
    exact h2.trans (hw x)

/-- The payload a chunk stores is the sum at the chunk's rows, when the scratch buffers hold the chunk's rows of the
    device's input and of the peer's. -/
theorem pay_total {o : ℕ} (h : ∀ a, (![o, 0] : Fin 2 → ℕ) a + S2048x1024.size a ≤ S32768x1024.size a) (x : S2048x1024.Idx) :
    k0_pay1 ((xM.slice (rows o h) (fun _ => rfl)).view.read (Elt F) (xAt m c))
      ((rM.slice (rows o h) (fun _ => rfl)).view.read (Elt F) (landed m c)) x = total m c ((rows o h).emb x) := by
  unfold k0_pay1
  rw [shapeCast_id]; rfl

theorem hz : (![0, 0] : Fin 2 → ℕ) = fun _ => 0 := funext fun a => by fin_cases a <;> rfl

/-- The whole of a scratch buffer. -/
abbrev r0 : Rect S2048x1024 := Rect.unit (s := S2048x1024) ![0, 0] S2048x1024.size inb_S2048x1024_S2048x1024_0_0

/-- Held between chunks: the two inputs, the scratch buffers with anything, the result with the sum in its rows below `o`,
    the local semaphores at zero, and the exit signal owed. -/
def St (o : ℕ) : sProp 𝕄 :=
  iprop(held c main_arg0 (xAt m c) ∗ held c main_v1_1 (landed m c)
    ∗ (∃ f, held c cc0_scratch0 f) ∗ (∃ f, held c cc0_scratch1 f) ∗ (∃ f, held c cc0_scratch2 f)
    ∗ (∃ f, ⌜UpTo m c o f⌝ ∗ held c main_v1_0 f)
    ∗ semVal ((c : Thread nD τ), SemLoc.dma inS) 0 ∗ semVal ((c : Thread nD τ), SemLoc.dma in2S) 0
    ∗ semVal ((c : Thread nD τ), SemLoc.dma outS) 0
    ∗ (∃ W, owes (c : Thread nD τ) (O₂ c) W) ∗ levAts L lv)

/-- **One chunk.** With the rows below `o` of the result holding the sum, the chunk's twelve operations run, and the rows
    below `o + 2048` hold it. -/
theorem wp_chunk (o : ℕ) (h : ∀ a, (![o, 0] : Fin 2 → ℕ) a + S2048x1024.size a ≤ S32768x1024.size a)
    {e₁ e₁' : (xM.slice (rows o h) (fun _ => rfl)).view.WordExact} {e₂ e₂' : (rM.slice (rows o h) (fun _ => rfl)).view.WordExact}
    {e₃ e₃' : (oM.slice (rows o h) (fun _ => rfl)).view.WordExact}
    {ea ea' : aM.view.WordExact} {eb eb' : bM.view.WordExact} {es es' : sM.view.WordExact}
    {t₁ : (DmaTarget.here aM : DmaTarget nD τ sig .tc .vmem S2048x1024 .bf16).Typed .hbm (.dma inS)}
    {t₂ : (DmaTarget.here bM : DmaTarget nD τ sig .tc .vmem S2048x1024 .bf16).Typed .hbm (.dma in2S)}
    {t₃ : (DmaTarget.here (oM.slice (rows o h) (fun _ => rfl)) : DmaTarget nD τ sig .tc .hbm S2048x1024 .f32).Typed .vmem (.dma outS)}
    {la : aM.view.LoadsAt r0.toLoadRect} {lb : bM.view.LoadsAt r0.toLoadRect} {ls : sM.view.LoadsAt r0.toLoadRect}
    {hx : (sM.access r0).Stores Finset.univ} {hm : (Finset.univ : Finset r0.shape.Idx) = Finset.univ ∨ ∀ a, r0.stride a = 1}
    (k : PUnit → Prog (TpuEff nD τ sig (Elt F) Λ₀ .tc) PUnit) (Q : PUnit → sProp 𝕄) :
    St m c o ⊢ iprop((St m c (o + 2048) -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma (xM.slice (rows o h) (fun _ => rfl)) (.here aM) (.dma inS) e₁ ea t₁) fun _ =>
         .op (.enqueueDma (rM.slice (rows o h) (fun _ => rfl)) (.here bM) (.dma in2S) e₂ eb t₂) fun _ =>
         .op (.waitDma2 inS (xM.slice (rows o h) (fun _ => rfl)) aM e₁' ea') fun _ =>
         .op (.waitDma2 in2S (rM.slice (rows o h) (fun _ => rfl)) bM e₂' eb') fun _ =>
         .op (.load aM r0.toLoadRect la) fun v =>
         .op (.load bM r0.toLoadRect lb) fun v' =>
         .op (.load sM r0.toLoadRect ls) fun _ =>
         .op (.store sM r0 (k0_pay1 v v') Finset.univ hx hm) fun _ =>
         .op (.enqueueDma sM (.here (oM.slice (rows o h) (fun _ => rfl))) (.dma outS) es e₃ t₃) fun _ =>
         .op (.waitDma2 outS sM (oM.slice (rows o h) (fun _ => rfl)) es' e₃') k) Q) := by
  unfold St
  iintro ⟨Hx, Hr, ⟨%fa, Ha⟩, ⟨%fb, Hb⟩, ⟨%fs, Hs⟩, ⟨%fo, %hfo, Ho⟩, V₁, V₂, V₃, ⟨%W, HO⟩, #Hlev⟩ Hk
  ihave Hx := (pointsTo_split_subset (Finset.subset_univ (xM.slice (rows o h) (fun _ => rfl)).view.set)).1 $$ Hx
  icases Hx with ⟨Hx, Hx'⟩
  ihave Hr := (pointsTo_split_subset (Finset.subset_univ (rM.slice (rows o h) (fun _ => rfl)).view.set)).1 $$ Hr
  icases Hr with ⟨Hr, Hr'⟩
  iapply (Transfers.wp_dmaLocal EC 𝒱₀ (c : Thread nD τ) none () (aM.view.dmaCredit) rfl (View.dmaCredit_pos _ (by decide)) (Finset.subset_univ _)) $$ [Hx Ha V₁]
  · isplitl [Hx]; · iexact Hx
    isplitl [Ha]; · iexact Ha
    iexact V₁
  iintro F₁
  iapply (Transfers.wp_dmaLocal EC 𝒱₀ (c : Thread nD τ) none () (bM.view.dmaCredit) rfl (View.dmaCredit_pos _ (by decide)) (Finset.subset_univ _)) $$ [Hr Hb V₂]
  · isplitl [Hr]; · iexact Hr
    isplitl [Hb]; · iexact Hb
    iexact V₂
  iintro F₂
  iapply (Transfers.wp_waitLocalO EC 𝒱₀ (c : Thread nD τ) none () rfl) $$ [F₁ HO]
  · isplitl [F₁]; · iexact F₁
    isplitl [HO]; · iexact HO
    iapply (mayWait_two c (.dma inS) (by decide)); iexact Hlev
  iintro ⟨⟨Ha, Hx⟩, V₁, HO⟩
  iapply (Transfers.wp_waitLocalO EC 𝒱₀ (c : Thread nD τ) none () rfl) $$ [F₂ HO]
  · isplitl [F₂]; · iexact F₂
    isplitl [HO]; · iexact HO
    iapply (mayWait_two c (.dma in2S) (by decide)); iexact Hlev
  iintro ⟨⟨Hb, Hr⟩, V₂, HO⟩
  iapply (wp_load 𝒱₀ (c : Thread nD τ) none Set.univ (m := aM) (Finset.subset_univ _)) $$ Ha
  iintro Ha
  iapply (wp_load 𝒱₀ (c : Thread nD τ) none Set.univ (m := bM) (Finset.subset_univ _)) $$ Hb
  iintro Hb
  iapply (wp_load 𝒱₀ (c : Thread nD τ) none Set.univ (m := sM) (Finset.subset_univ _)) $$ Hs
  iintro Hs
  iapply (wp_store 𝒱₀ (c : Thread nD τ) none Set.univ (m := sM) (r := r0) (Mk := Finset.univ) (Finset.subset_univ _)) $$ Hs
  iintro Hs
  ihave Hs := (pointsTo_split_subset (Finset.subset_univ sM.view.set)).1 $$ Hs
  icases Hs with ⟨Hs, Hs'⟩
  iapply (Transfers.wp_dmaLocal EC 𝒱₀ (c : Thread nD τ) none () ((oM.slice (rows o h) (fun _ => rfl)).view.dmaCredit) rfl (View.dmaCredit_pos _ (by decide : 0 < S2048x1024.numel)) (Finset.subset_univ _)) $$ [Hs Ho V₃]
  · isplitl [Hs]; · iexact Hs
    isplitl [Ho]; · iexact Ho
    iexact V₃
  iintro F₃
  iapply (Transfers.wp_waitLocalO EC 𝒱₀ (c : Thread nD τ) none () rfl) $$ [F₃ HO]
  · isplitl [F₃]; · iexact F₃
    isplitl [HO]; · iexact HO
    iapply (mayWait_two c (.dma outS) (by decide)); iexact Hlev
  iintro ⟨⟨Ho, Hs⟩, V₃, HO⟩
  iapply Hk
  isplitl [Hx Hx']
  · iapply (pointsTo_split_subset (Finset.subset_univ (xM.slice (rows o h) (fun _ => rfl)).view.set)).2
    isplitl [Hx] <;> iassumption
  isplitl [Hr Hr']
  · iapply (pointsTo_split_subset (Finset.subset_univ (rM.slice (rows o h) (fun _ => rfl)).view.set)).2
    isplitl [Hr] <;> iassumption
  isplitl [Ha]; · iexists _; iexact Ha
  isplitl [Hb]; · iexists _; iexact Hb
  isplitl [Hs Hs']
  · iexists _
    iapply (pointsTo_split_subset (Finset.subset_univ sM.view.set)).2
    isplitl [Hs] <;> iassumption
  isplitl [Ho]
  · iexists _
    isplitr
    rotate_left
    · iexact Ho
    · ipureintro
      exact upTo_write m c h hfo _ fun x => by
        refine Eq.trans ?_ (pay_total m c h x)
        have hA := (Memref.readAt_unit_zero (Elt F) cc0_scratch0 hz inb_S2048x1024_S2048x1024_0_0 _).trans
          (View.write_whole_univ (Val := Elt F) cc0_scratch0 fa ((xM.slice (rows o h) (fun _ => rfl)).view.read (Elt F) (xAt m c)))
        have hB := (Memref.readAt_unit_zero (Elt F) cc0_scratch1 hz inb_S2048x1024_S2048x1024_0_0 _).trans
          (View.write_whole_univ (Val := Elt F) cc0_scratch1 fb ((rM.slice (rows o h) (fun _ => rfl)).view.read (Elt F) (landed m c)))
        exact (congrFun (Memref.write_access_unit_zero_univ (Elt F) cc0_scratch2 hz inb_S2048x1024_S2048x1024_0_0 fs _) x).trans
          (congrFun (congrArg₂ k0_pay1 hA hB) x)
  isplitl [V₁]; · iexact V₁
  isplitl [V₂]; · iexact V₂
  isplitl [V₃]; · iexact V₃
  isplitl [HO]; · iexists _; iexact HO
  iexact Hlev

end Cert.PairSum

end
-- ==== Proof.Body.lean ====
/-
# The body on one device

Three parts, each a theorem over any continuation: `wp_exchange` (entry signal, wait for the peer's, the remote copy of
the input, the waits for both of its ends), `wp_chunk` sixteen times, `wp_leave` (exit signal and wait).
`body_obligation` joins them into the obligation the launch asks of every device.
-/
module

public import proofs.«01_k».proof.Proof.Chunk

@[expose] public section

noncomputable section

namespace Cert.PairSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 4 → ℕ)

/-- What every device knows of all shared cells: their invariants, under the names `K`, and that they are at round 0. -/
def records : sProp 𝕄 :=
  iprop((bigSep Finset.univ fun ck : Dev nD × Fin 4 => cellInv ER (rd m) (K ck) (kcell ck))
    ∗ bigSep Finset.univ fun ck : Dev nD × Fin 4 => reached ER (kcell ck) 0)

instance records_persistent : BI.Persistent (records m K) := by unfold records; infer_instance

theorem inv_of (c : Dev nD) (k : Fin 4) : records m K ⊢ cellInv ER (rd m) (K (c, k)) (kcell (c, k)) := by
  have h : (bigSep Finset.univ fun ck : Dev nD × Fin 4 => (cellInv ER (rd m) (K ck) (kcell ck) : sProp 𝕄))
      ⊢ cellInv ER (rd m) (K (c, k)) (kcell (c, k)) := bigSep_elim (Finset.mem_univ ((c, k) : Dev nD × Fin 4))
  unfold records; iintro ⟨H, -⟩
  iapply h; iexact H
theorem reached_of (c : Dev nD) (k : Fin 4) : records m K ⊢ reached ER (kcell (c, k)) 0 := by
  have h : (bigSep Finset.univ fun ck : Dev nD × Fin 4 => (reached ER (kcell ck) 0 : sProp 𝕄))
      ⊢ reached ER (kcell (c, k)) 0 := bigSep_elim (Finset.mem_univ ((c, k) : Dev nD × Fin 4))
  unfold records; iintro ⟨-, H⟩
  iapply h; iexact H

/-- A device's position in a cell of its own: before its one wait. -/
abbrev at₀ (c : Dev nD) (k : Fin 4) : sProp 𝕄 := atPos ER (kcell (c, k)) 0 ∅ 0
/-- The right to pay a cell's one duty. -/
abbrev tok (c : Dev nD) (k : Fin 4) : sProp 𝕄 := dutyTok ER (kcell (c, k)) 0 ()

variable (c : Dev nD)

/-- A device's cell after its wait: the counter, at zero, is the device's again. -/
theorem close_cell (k : Fin 4) : iprop(records m K ∗ atPos ER (kcell (c, k)) (0 + 1) ∅ 0) ⊢ iprop(|={Set.univ}=> semVal (kcell (c, k)) 0 : sProp 𝕄) := by
  iintro ⟨#Hr, Hat⟩
  iapply (Rounds.cell_close ER (rd m) (Set.mem_univ (K (c, k))) (fun h => h) (R := 0 + 1) (duties_later m (kcell (c, k))))
  isplitr; · iapply (inv_of m K c k); iexact Hr
  iexact Hat

/-- **The exchange.** -/
theorem wp_exchange (n : Dev nD) (hn : n = peer c)
    {hsc : (rM : Memref sig (Dev.tc n : Thread nD τ).2.kind .hbm S32768x1024 .bf16).view.ref.isScScratch = false}
    {e₁ e₁' e₁'' : xM.view.WordExact} {e₂ e₂' e₂'' : rM.view.WordExact}
    {hsem : DmaTarget.Typed .hbm (.dma recvS) (.remote (Dev.tc n : Thread nD τ) (rM : Memref sig .tc .hbm S32768x1024 .bf16) (.dma sendS) hsc)}
    (k : PUnit → Prog (TpuEff nD τ sig (Elt F) Λ₀ .tc) PUnit) (Q : PUnit → sProp 𝕄) (W : Waits sig Unit) :
    iprop(records m K ∗ levAts L lv ∗ at₀ c 0 ∗ at₀ c 2 ∗ at₀ c 3 ∗ tok (peer c) 0 ∗ tok (peer c) 3 ∗ tok c 2
        ∗ cred (tallyAt (barCell c) () 1) ∗ cred (tallyAt (recvCell c) () N) ∗ owes (c : Thread nD τ) (O₀ c) W
        ∗ held c main_arg0 (xAt m c) ∗ ∃ f, held c main_v1_1 f)
      ⊢ iprop((iprop(held c main_arg0 (xAt m c) ∗ held c main_v1_1 (landed m c) ∗ semVal (barCell c) 0 ∗ semVal (sendCell c) 0
            ∗ semVal (recvCell c) 0 ∗ ∃ W, owes (c : Thread nD τ) (O₂ c) W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (n, .tc) barS (1#32).toInt) fun _ =>
           .op (.semWait barS (1#32).toNat) fun _ =>
           .op (.enqueueDma xM (.remote (Dev.tc n : Thread nD τ) rM (.dma sendS) hsc) (.dma recvS) e₁ e₂ hsem) fun _ =>
           .op (.waitDma2 sendS rM xM e₂' e₁') fun _ =>
           .op (.waitDma2 recvS xM rM e₁'' e₂'') k) Q) := by
  subst hn
  iintro ⟨#HR, #Hlev, AB, AS, AV, TB, TV, TS, CB, CV, HO, Hx, Hr⟩ Hk
  ihave #IB := (inv_of m K c 0) $$ HR
  ihave #IS := (inv_of m K c 2) $$ HR
  ihave #IV := (inv_of m K c 3) $$ HR
  ihave #IB' := (inv_of m K (peer c) 0) $$ HR
  ihave #IV' := (inv_of m K (peer c) 3) $$ HR
  ihave #RB' := (reached_of m K (peer c) 0) $$ HR
  ihave #RV' := (reached_of m K (peer c) 3) $$ HR
  ihave #RS := (reached_of m K c 2) $$ HR
  -- the entry signal hands the landing buffer to the peer
  iapply (Rounds.wp_signal 𝒱₀ ER (rd m) (c : Thread nD τ) none (dst := (peer c : Thread nD τ)) (κ := K (peer c, 0))
      (d := ()) (mem_duties m (peer c) 0) ((amount_cell m (peer c) 0).trans amt_bar) () (O₁ c) rfl) $$ [HO TB Hr]
  · isplitr; · iexact IB'
    isplitl [HO]; · iexact HO
    isplitl [TB]; · iexact TB
    isplitl [Hr]
    · iapply (Entails.of_eq ((payload_cell m (peer c) 0).trans (pay_bar m (peer c))).symm)
      unfold barPay; rw [peer_peer]; iexact Hr
    iexact RB'
  iintro HO
  -- the wait for the peer's: its landing buffer
  iapply (Rounds.wp_wait_rest_token 𝒱₀ ER (rd m) (c : Thread nD τ) none (κ := K (c, 0))
      (wpE_semWait_eq 𝒱₀ (c : Thread nD τ) none Set.univ) (Set.mem_univ _) () (O := O₁ c) (W := W) (R := 0) (m := 0) (T := ∅)
      (by rw [expect_cell m c 0, amt_bar]; decide)) $$ [CB HO AB]
  · isplitr; · iexact IB
    isplitl [CB]; · iexact CB
    isplitl [HO]; · iexact HO
    isplitr; · iapply (mayWait_bar c); iexact Hlev
    iexact AB
  iintro ⟨HO, AB, -, Hpay⟩
  ihave Hp := (Entails.of_eq ((rest_cell m c 0).trans (pay_bar m c))) $$ Hpay
  unfold barPay
  icases Hp with ⟨%fn, Hp⟩
  -- the remote copy
  iapply (Rounds.wp_send_pointsTo 𝒱₀ ER (rd m) (c : Thread nD τ) none (κ₁ := K (c, 2)) (κ₂ := K (peer c, 3))
    (r₁ := 0) (r₂ := 0) (d₁ := ()) (d₂ := ()) (fd := fn) (mem_duties m c 2) (mem_duties m (peer c) 3)
    () () N rfl ((amount_cell m c 2).trans amt_send) ((amount_cell m (peer c) 3).trans amt_recv) (O₂ c) rfl
    (W := insert (SemLoc.reg barS, ()) W)
    (by rw [payload_cell, pay_send]; exact Entails.of_eq (by rw [View.set_whole]))
    (by
      rw [payload_cell, pay_recv]
      exact Entails.of_eq (by rw [View.set_whole, View.write_whole_univ, landed, peer_peer]; rfl))) $$ [Hx Hp HO TS TV]
  · isplitr; · iexact IS
    isplitr; · iexact IV'
    isplitl [Hx]; · rw [View.set_whole]; iexact Hx
    isplitl [Hp]; · rw [View.set_whole]; iexact Hp
    isplitl [HO]; · iexact HO
    isplitl [TS]; · iexact TS
    isplitr; · iexact RS
    isplitl [TV]; · iexact TV
    iexact RV'
  iintro ⟨CS, HO⟩
  -- its two ends: the input back, and the peer's input landed
  iapply (Rounds.wp_wait_rest_token 𝒱₀ ER (rd m) (c : Thread nD τ) none (κ := K (c, 2))
      (wpE_waitDma2_eq 𝒱₀ (c : Thread nD τ) none Set.univ) (Set.mem_univ _) () (O := O₂ c) (R := 0) (m := 0) (T := ∅)
      (by rw [expect_cell m c 2, amt_send, Nat.zero_add])) $$ [CS HO AS]
  · isplitr; · iexact IS
    isplitl [CS]; · iexact CS
    isplitl [HO]; · iexact HO
    isplitr; · iapply (mayWait_two c (.dma sendS) (by decide)); iexact Hlev
    iexact AS
  iintro ⟨HO, AS, -, Hpay⟩
  ihave Hx := (Entails.of_eq ((rest_cell m c 2).trans (pay_send m c))) $$ Hpay
  iapply (Rounds.wp_wait_rest_token 𝒱₀ ER (rd m) (c : Thread nD τ) none (κ := K (c, 3))
      (wpE_waitDma2_eq 𝒱₀ (c : Thread nD τ) none Set.univ) (Set.mem_univ _) () (O := O₂ c) (R := 0) (m := 0) (T := ∅)
      (by rw [expect_cell m c 3, amt_recv, Nat.zero_add])) $$ [CV HO AV]
  · isplitr; · iexact IV
    isplitl [CV]; · iexact CV
    isplitl [HO]; · iexact HO
    isplitr; · iapply (mayWait_two c (.dma recvS) (by decide)); iexact Hlev
    iexact AV
  iintro ⟨HO, AV, -, Hpay⟩
  ihave Hr := (Entails.of_eq ((rest_cell m c 3).trans (pay_recv m c))) $$ Hpay
  imod (close_cell m K c 0) $$ [AB] with VB
  · isplitr; · iexact HR
    iexact AB
  imod (close_cell m K c 2) $$ [AS] with VS
  · isplitr; · iexact HR
    iexact AS
  imod (close_cell m K c 3) $$ [AV] with VV
  · isplitr; · iexact HR
    iexact AV
  iapply Hk
  isplitl [Hx]; · iexact Hx
  isplitl [Hr]; · iexact Hr
  isplitl [VB]; · iexact VB
  isplitl [VS]; · iexact VS
  isplitl [VV]; · iexact VV
  iexists _; iexact HO

/-- **The exit.** The peer is told, and its telling waited for; nothing is owed afterwards. -/
theorem wp_leave (n : Dev nD) (hn : n = peer c)
    (k : PUnit → Prog (TpuEff nD τ sig (Elt F) Λ₀ .tc) PUnit) (Q : PUnit → sProp 𝕄) (W : Waits sig Unit) :
    iprop(records m K ∗ at₀ c 1 ∗ tok (peer c) 1 ∗ cred (tallyAt (exitCell c) () 1) ∗ owes (c : Thread nD τ) (O₂ c) W)
      ⊢ iprop((iprop(semVal (exitCell c) 0 ∗ ∃ W, owes (c : Thread nD τ) 0 W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (n, .tc) exitS (1#32).toInt) fun _ => .op (.semWait exitS (1#32).toNat) k) Q) := by
  subst hn
  iintro ⟨#HR, AE, TE, CE, HO⟩ Hk
  ihave #IE := (inv_of m K c 1) $$ HR
  ihave #IE' := (inv_of m K (peer c) 1) $$ HR
  ihave #RE' := (reached_of m K (peer c) 1) $$ HR
  iapply (Rounds.wp_signal 𝒱₀ ER (rd m) (c : Thread nD τ) none (dst := (peer c : Thread nD τ)) (κ := K (peer c, 1))
      (d := ()) (mem_duties m (peer c) 1) ((amount_cell m (peer c) 1).trans amt_exit) () 0 (zero_add _).symm) $$ [HO TE]
  · isplitr; · iexact IE'
    isplitl [HO]; · iexact HO
    isplitl [TE]; · iexact TE
    isplitr; · (iapply (Entails.of_eq ((payload_cell m (peer c) 1).trans (pay_exit m (peer c))).symm); iempintro)
    iexact RE'
  iintro HO
  iapply (Rounds.wp_wait_rest_token 𝒱₀ ER (rd m) (c : Thread nD τ) none (κ := K (c, 1))
      (wpE_semWait_eq 𝒱₀ (c : Thread nD τ) none Set.univ) (Set.mem_univ _) () (O := 0) (R := 0) (m := 0) (T := ∅)
      (by rw [expect_cell m c 1, amt_exit]; decide)) $$ [CE HO AE]
  · isplitr; · iexact IE
    isplitl [CE]; · iexact CE
    isplitl [HO]; · iexact HO
    isplitr; · rw [MayWait_zero]; iempintro
    iexact AE
  iintro ⟨HO, AE, -, -⟩
  imod (close_cell m K c 1) $$ [AE] with VE
  · isplitr; · iexact HR
    iexact AE
  iapply Hk
  isplitl [VE]; · iexact VE
  iexists _; iexact HO

/-! ## Before and after -/

/-- A device's start, but for its scratch buffers: at some names, what it knows of the shared cells, its positions and the
    duties it is to pay; the credits of its three waits that others answer; the levels; the input, the result and the
    landing buffer; its local semaphores at zero. -/
def start : sProp 𝕄 :=
  iprop((∃ K, records m K ∗ at₀ c 0 ∗ at₀ c 1 ∗ at₀ c 2 ∗ at₀ c 3 ∗ tok (peer c) 0 ∗ tok (peer c) 1 ∗ tok c 2 ∗ tok (peer c) 3)
    ∗ (semVal ((c : Thread nD τ), SemLoc.dma inS) 0 ∗ semVal ((c : Thread nD τ), SemLoc.dma in2S) 0
      ∗ semVal ((c : Thread nD τ), SemLoc.dma outS) 0)
    ∗ (cred (tallyAt (barCell c) () 1) ∗ cred (tallyAt (recvCell c) () N) ∗ cred (tallyAt (exitCell c) () 1))
    ∗ levAts L lv
    ∗ held c main_arg0 (xAt m c) ∗ (∃ f, held c main_v1_0 f) ∗ ∃ f, held c main_v1_1 f)

/-- A device's scratch buffers, with anything in them. -/
def scratch : sProp 𝕄 := iprop((∃ f, held c cc0_scratch0 f) ∗ (∃ f, held c cc0_scratch1 f) ∗ ∃ f, held c cc0_scratch2 f)

def Φ₀ : sProp 𝕄 := iprop(start m c ∗ scratch c)

/-- After the body: the input unchanged, the result the sum, every semaphore at zero. -/
def Φ₁ : sProp 𝕄 :=
  iprop((held c main_arg0 (xAt m c) ∗ held c main_v1_0 (total m c) ∗ semVal (barCell c) 0)
    ∗ (semVal (exitCell c) 0 ∗ semVal ((c : Thread nD τ), SemLoc.dma inS) 0 ∗ semVal ((c : Thread nD τ), SemLoc.dma in2S) 0
      ∗ semVal ((c : Thread nD τ), SemLoc.dma outS) 0 ∗ semVal (sendCell c) 0 ∗ semVal (recvCell c) 0)
    ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem upTo_all {f : Buf (Elt F) ((c : Thread nD τ).loc main_v1_0)} (h : UpTo m c 32768 f) : f = total m c :=
  funext fun i => h i (i (0 : Fin 2)).isLt

/-- The first chunk's start: no row of the result need hold anything yet. -/
theorem St_intro (fo : Buf (Elt F) ((c : Thread nD τ).loc main_v1_0)) :
    iprop(held c main_arg0 (xAt m c) ∗ held c main_v1_1 (landed m c)
      ∗ (∃ f, held c cc0_scratch0 f) ∗ (∃ f, held c cc0_scratch1 f) ∗ (∃ f, held c cc0_scratch2 f) ∗ held c main_v1_0 fo
      ∗ semVal ((c : Thread nD τ), SemLoc.dma inS) 0 ∗ semVal ((c : Thread nD τ), SemLoc.dma in2S) 0
      ∗ semVal ((c : Thread nD τ), SemLoc.dma outS) 0
      ∗ (∃ W, owes (c : Thread nD τ) (O₂ c) W) ∗ levAts L lv) ⊢ St m c 0 := by
  unfold St
  iintro ⟨Hx, Hr, Ha, Hb, Hs, Ho, H⟩
  isplitl [Hx]; · iexact Hx
  isplitl [Hr]; · iexact Hr
  isplitl [Ha]; · iexact Ha
  isplitl [Hb]; · iexact Hb
  isplitl [Hs]; · iexact Hs
  isplitl [Ho]
  · iexists fo
    isplitr; · (ipureintro; exact fun i hi => absurd hi (Nat.not_lt_zero _))
    iexact Ho
  iexact H

/-- **The body.** -/
theorem wp_body (W : Waits sig Unit) :
    iprop(Φ₀ m c ∗ owes (c : Thread nD τ) (O₀ c) W)
      ⊢ wp frame (wpE (defs₀ (F := F)) 𝒱₀ (c : Thread nD τ) none) Set.univ
          (cc0_body (Memref.whole main_arg0) (Memref.isWhole_whole _) (Memref.whole main_v1_0) (Memref.isWhole_whole _)
            (Memref.whole main_v1_1) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          (fun _ => iprop(Φ₁ m c ∗ ∃ W, owes (c : Thread nD τ) 0 W)) := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold Φ₀ start scratch
  iintro ⟨⟨⟨⟨%K, #HR, A0, A1, A2, A3, T0, T1, T2, T3⟩, ⟨V1, V2, V3⟩, ⟨CB, CV, CE⟩, #Hlev, Hx, ⟨%fo, Ho⟩, Hr⟩, Ha, Hb, Hs⟩, HO⟩
  iapply (wp_exchange m K c _ (dev2_eq c) _ _ W) $$ [A0 A2 A3 T0 T2 T3 CB CV HO Hx Hr]
  · isplitr; · iexact HR
    isplitr; · iexact Hlev
    isplitl [A0]; · iexact A0
    isplitl [A2]; · iexact A2
    isplitl [A3]; · iexact A3
    isplitl [T0]; · iexact T0
    isplitl [T3]; · iexact T3
    isplitl [T2]; · iexact T2
    isplitl [CB]; · iexact CB
    isplitl [CV]; · iexact CV
    isplitl [HO]; · iexact HO
    isplitl [Hx]; · iexact Hx
    iexact Hr
  iintro ⟨Hx, Hr, VB, VS, VV, HO⟩
  ihave H := (St_intro m c fo) $$ [Hx Hr Ha Hb Hs Ho V1 V2 V3 HO]
  · isplitl [Hx]; · iexact Hx
    isplitl [Hr]; · iexact Hr
    isplitl [Ha]; · iexact Ha
    isplitl [Hb]; · iexact Hb
    isplitl [Hs]; · iexact Hs
    isplitl [Ho]; · iexact Ho
    isplitl [V1]; · iexact V1
    isplitl [V2]; · iexact V2
    isplitl [V3]; · iexact V3
    isplitl [HO]; · iexact HO
    iexact Hlev
  iapply (wp_chunk m c 0 inb_S32768x1024_S2048x1024_0_0) $$ H; iintro H
  iapply (wp_chunk m c 2048 inb_S32768x1024_S2048x1024_2048_0) $$ H; iintro H
  iapply (wp_chunk m c 4096 inb_S32768x1024_S2048x1024_4096_0) $$ H; iintro H
  iapply (wp_chunk m c 6144 inb_S32768x1024_S2048x1024_6144_0) $$ H; iintro H
  iapply (wp_chunk m c 8192 inb_S32768x1024_S2048x1024_8192_0) $$ H; iintro H
  iapply (wp_chunk m c 10240 inb_S32768x1024_S2048x1024_10240_0) $$ H; iintro H
  iapply (wp_chunk m c 12288 inb_S32768x1024_S2048x1024_12288_0) $$ H; iintro H
  iapply (wp_chunk m c 14336 inb_S32768x1024_S2048x1024_14336_0) $$ H; iintro H
  iapply (wp_chunk m c 16384 inb_S32768x1024_S2048x1024_16384_0) $$ H; iintro H
  iapply (wp_chunk m c 18432 inb_S32768x1024_S2048x1024_18432_0) $$ H; iintro H
  iapply (wp_chunk m c 20480 inb_S32768x1024_S2048x1024_20480_0) $$ H; iintro H
  iapply (wp_chunk m c 22528 inb_S32768x1024_S2048x1024_22528_0) $$ H; iintro H
  iapply (wp_chunk m c 24576 inb_S32768x1024_S2048x1024_24576_0) $$ H; iintro H
  iapply (wp_chunk m c 26624 inb_S32768x1024_S2048x1024_26624_0) $$ H; iintro H
  iapply (wp_chunk m c 28672 inb_S32768x1024_S2048x1024_28672_0) $$ H; iintro H
  iapply (wp_chunk m c 30720 inb_S32768x1024_S2048x1024_30720_0) $$ H; iintro H
  unfold St
  icases H with ⟨Hx, -, Ha, Hb, Hs, ⟨%f, %hf, Ho⟩, V1, V2, V3, ⟨%W', HO⟩, -⟩
  iapply (wp_leave m K c _ (dev3_eq c) _ _ W') $$ [A1 T1 CE HO]
  · isplitr; · iexact HR
    isplitl [A1]; · iexact A1
    isplitl [T1]; · iexact T1
    isplitl [CE]; · iexact CE
    iexact HO
  iintro ⟨VE, HO⟩
  rw [wp_ret]; imodintro
  rw [upTo_all m c hf]
  unfold Φ₁ scratch
  isplitr [HO]
  · isplitl [Hx Ho VB]
    · isplitl [Hx]; · iexact Hx
      isplitl [Ho] <;> iassumption
    isplitl [VE V1 V2 V3 VS VV]
    · isplitl [VE]; · iexact VE
      isplitl [V1]; · iexact V1
      isplitl [V2]; · iexact V2
      isplitl [V3]; · iexact V3
      isplitl [VS] <;> iassumption
    isplitl [Ha]; · iexact Ha
    isplitl [Hb] <;> iassumption
  iexact HO

set_option maxRecDepth 65536 in
/-- The obligation the launch asks of a device's body. -/
theorem body_obligation : BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats m 0 c).owesAt () t0_0.castSucc ∗ emp) ⊢ wp frame (wpE (defs₀ (F := F)) 𝒱₀ (c : Thread nD τ) none) Set.univ
          (cc0_body (Memref.whole main_arg0) (Memref.isWhole_whole _) (Memref.whole main_v1_0) (Memref.isWhole_whole _)
            (Memref.whole main_v1_1) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4 cc0_scratch5 cc0_scoped0)
          (fun _ => iprop(Φ₁ m c ∗ (dats m 0 c).owesAt () t0_0.succ ∗ emp))
  have hpost (W : Waits sig Unit) : iprop(Φ₀ m c ∗ owes (c : Thread nD τ) (O₀ c) W) ⊢ _ :=
    (wp_body m c W).trans (wp_mono _ _ _ (Q' := fun _ => iprop(Φ₁ m c ∗ (dats m 0 c).owesAt () t0_0.succ ∗ emp)) fun _ => by
      unfold Dat.owesAt Pipeline.owesWithin
      iintro ⟨H, ⟨%W', HO⟩⟩
      isplitl [H]; · iexact H
      isplitl [HO]
      · iexists W'
        isplitr; · (ipureintro; exact fun _ _ => Or.inl trivial)
        iexact HO
      iempintro)
  have hpre : iprop(Φ₀ m c ∗ (dats m 0 c).owesAt () t0_0.castSucc ∗ emp) ⊢ iprop(∃ W, Φ₀ m c ∗ owes (c : Thread nD τ) (O₀ c) W) := by
    unfold Dat.owesAt Pipeline.owesWithin
    iintro ⟨H, ⟨%W, %hW, HO⟩, -⟩
    iexists W
    isplitl [H]; · iexact H
    iexact HO
  exact hpre.trans (exists_elim hpost)

end Cert.PairSum

end
-- ==== Proof.Launch.lean ====
/-
# The launch: from a memory with every counter at zero to the run of the whole mesh

The launch element mints, for each of the four shared cells of each device, its round state, the record that round 0 is
reached, its owner's position and the token of its one duty. One global step turns every cell's counter and round state
into the cell's invariant, and hands each token to the device that pays the duty: the barrier, exit and receive tokens go
to the peer, the send token stays. `run_main` is the whole run: every device's result is the sum, its input is unchanged
and every semaphore ends at zero.
-/
module

public import proofs.«01_k».proof.Proof.Body
public import Idealize.ShloMosaic.Lib.Pipeline.CollectiveSegs

@[expose] public section

noncomputable section

namespace Cert.PairSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- Different cells have different duties. -/
theorem duty_injective : Function.Injective (fun ck : Dev nD × Fin 4 => ((kcell ck, 0, ()) : GSem nD τ sig × ℕ × Unit)) :=
  fun _ _ h => kcell_injective (congrArg Prod.fst h)

/-- Every shared cell of every device. -/
def pairCells : Finset (GSem nD τ sig) := Finset.univ.map ⟨kcell, kcell_injective⟩
/-- Every shared cell's one duty. -/
def pairDuties : Finset (GSem nD τ sig × ℕ × Unit) := Finset.univ.map ⟨_, duty_injective⟩

/-- The launch element: the launch's own cells, the pairs' cells and duties, no counter of a local copy yet. -/
def u₀ : UU :=
  (initOf (Pipeline.cells cfgs cellOf_inj) (Pipeline.launchToks cfgs cellOf_inj), (initOf pairCells pairDuties, (1 : Counters)))

variable (c : Dev nD)

/-- What is minted for device `c`: for each of its cells the round state, that round 0 is reached, the position and the
    duty's token. -/
def G : sProp 𝕄 :=
  bigSep Finset.univ fun k : Fin 4 =>
    iprop(roundState ER (rd m) (kcell (c, k)) 0 ∗ reached ER (kcell (c, k)) 0 ∗ at₀ c k ∗ tok c k)

/-- The three semaphores of the local copies. -/
def locals : sProp 𝕄 :=
  iprop(semVal ((c : Thread nD τ), SemLoc.dma inS) 0 ∗ semVal ((c : Thread nD τ), SemLoc.dma in2S) 0
    ∗ semVal ((c : Thread nD τ), SemLoc.dma outS) 0)

/-- What device `c` starts with after the global step. -/
def G' : sProp 𝕄 :=
  iprop((∃ K, records m K ∗ at₀ c 0 ∗ at₀ c 1 ∗ at₀ c 2 ∗ at₀ c 3 ∗ tok (peer c) 0 ∗ tok (peer c) 1 ∗ tok c 2 ∗ tok (peer c) 3)
    ∗ locals c)

/-- A conjunction over a device's four shared cells, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The launch element is every device's minted state. -/
theorem mint : BI.own (ER (initOf pairCells pairDuties)) ⊢ (|==> bigSep Finset.univ (G m) : sProp 𝕄) := by
  have hS (Φ : GSem nD τ sig → sProp 𝕄) : bigSep pairCells Φ = bigSep Finset.univ fun ck => Φ (kcell ck) := by
    unfold pairCells; rw [bigSep_map]; rfl
  have hT (Φ : GSem nD τ sig × ℕ × Unit → sProp 𝕄) : bigSep pairDuties Φ = bigSep Finset.univ fun ck => Φ (kcell ck, 0, ()) := by
    unfold pairDuties; rw [bigSep_map]; rfl
  have hG : bigSep Finset.univ (G m) = (bigSep Finset.univ fun ck : Dev nD × Fin 4 =>
      iprop(roundState ER (rd m) (kcell ck) 0 ∗ reached ER (kcell ck) 0 ∗ atPos ER (kcell ck) 0 ∅ 0 ∗ dutyTok ER (kcell ck) 0 ()) : sProp 𝕄) :=
    (bigSep_univ_prod fun ck : Dev nD × Fin 4 =>
      iprop(roundState ER (rd m) (kcell ck) 0 ∗ reached ER (kcell ck) 0 ∗ atPos ER (kcell ck) 0 ∅ 0 ∗ dutyTok ER (kcell ck) 0 ())).symm
  rw [hG, bigSep_sep', bigSep_sep', bigSep_sep']
  refine (Rounds.fund ER (rd m) pairCells pairDuties).trans ?_
  rw [hS, hS, hS, hT]

/-! ## The global step -/

/-- The counters of the kernel's own semaphores, in their order. -/
theorem ownSems0_eq : (Pipeline.ownSems0 (Ix := Unit) (Name := ℕ) (U := UU) (Lvl := ℕ) (Val := Elt F) (τ := τ) osem c : sProp 𝕄)
    = iprop(semVal (exitCell c) 0 ∗ semVal ((c : Thread nD τ), SemLoc.dma inS) 0 ∗ semVal ((c : Thread nD τ), SemLoc.dma in2S) 0
      ∗ semVal ((c : Thread nD τ), SemLoc.dma outS) 0 ∗ semVal (sendCell c) 0 ∗ semVal (recvCell c) 0) := by
  rw [Pipeline.ownSems0_eq_of_list c osem [0, 1, 2, 3, 4, 5] (by decide) (by decide)]; rfl

/-- The barrier is the one semaphore that outlives the kernel. -/
theorem unscopedSems0_eq : (unscopedSems0 c : sProp 𝕄) = semVal (barCell c) 0 := by
  unfold unscopedSems0; rw [bigSep_eq_bigSepL_of_eq [SemLoc.reg barS] (by decide) (by decide)]; rfl

/-- A device's counters are its four shared cells' and its three local ones'. -/
theorem counters_split :
    iprop(Pipeline.ownSems0 (Ix := Unit) (Name := ℕ) (U := UU) (Lvl := ℕ) (Val := Elt F) (τ := τ) osem c ∗ unscopedSems0 c)
      ⊢ (iprop((bigSep Finset.univ fun k : Fin 4 => semVal (kcell (c, k)) 0) ∗ locals c) : sProp 𝕄) := by
  rw [ownSems0_eq, unscopedSems0_eq, four]
  unfold locals
  iintro ⟨⟨HE, HA, HB, HC, HS, HV⟩, HR⟩
  isplitl [HE HS HV HR]
  · isplitl [HR]; · iexact HR
    isplitl [HE]; · iexact HE
    isplitl [HS]; · iexact HS
    iexact HV
  isplitl [HA]; · iexact HA
  isplitl [HB]; · iexact HB
  iexact HC

/-- A shared cell before the run: its invariant allocated, the rest of what is minted for it kept. -/
def opened (ck : Dev nD × Fin 4) : sProp 𝕄 :=
  iprop((∃ κ : ℕ, cellInv ER (rd m) κ (kcell ck)) ∗ reached ER (kcell ck) 0 ∗ atPos ER (kcell ck) 0 ∅ 0 ∗ dutyTok ER (kcell ck) 0 ())

/-- A cell's counter at zero and what is minted for it open the cell. -/
theorem open_cell (ck : Dev nD × Fin 4) :
    iprop(semVal (kcell ck) 0 ∗ roundState ER (rd m) (kcell ck) 0 ∗ reached ER (kcell ck) 0 ∗ atPos ER (kcell ck) 0 ∅ 0
        ∗ dutyTok ER (kcell ck) 0 ())
      ⊢ (iprop(|={Set.univ}=> opened m ck) : sProp 𝕄) := by
  iintro ⟨Hv, Hst, Hrest⟩
  imod ((Rounds.body_intro ER (rd m) (kcell ck)).trans (inv_alloc (E := Set.univ))) $$ [Hv Hst] with Hinv
  · isplitl [Hv] <;> iassumption
  imodintro
  unfold opened
  isplitl [Hinv]; · iexact Hinv
  iexact Hrest

/-- One device's cells, opened. -/
theorem open_device :
    iprop(Pipeline.ownSems0 (Ix := Unit) (Name := ℕ) (U := UU) (Lvl := ℕ) (Val := Elt F) (τ := τ) osem c ∗ unscopedSems0 c ∗ G m c)
      ⊢ (iprop(|={Set.univ}=> ((bigSep Finset.univ fun k : Fin 4 => opened m (c, k)) ∗ locals c)) : sProp 𝕄) := by
  iintro ⟨Ho, Hu, HG⟩
  ihave H := (counters_split (F := F) c) $$ [Ho Hu]
  · isplitl [Ho] <;> iassumption
  icases H with ⟨Hv, Hl⟩
  imod (show iprop((bigSep Finset.univ fun k : Fin 4 => semVal (kcell (c, k)) 0) ∗ G m c)
      ⊢ (iprop(|={Set.univ}=> bigSep Finset.univ fun k : Fin 4 => opened m (c, k)) : sProp 𝕄) from by
        unfold G
        rw [← bigSep_sep']
        exact (bigSep_mono fun k _ => open_cell m (c, k)).trans (bigSep_fupd _ _)) $$ [Hv HG] with H
  · isplitl [Hv] <;> iassumption
  imodintro
  isplitl [H] <;> iassumption

/-- Each device's tokens, handed to whoever pays the duty. -/
theorem deal : (bigSep Finset.univ fun ck : Dev nD × Fin 4 => (tok ck.1 ck.2 : sProp 𝕄))
    ⊢ bigSep Finset.univ fun c : Dev nD => iprop(tok (peer c) 0 ∗ tok (peer c) 1 ∗ tok c 2 ∗ tok (peer c) 3) := by
  rw [bigSep_univ_prod, bigSep_congr (s := Finset.univ) fun (c : Dev nD) _ => four fun k : Fin 4 => (tok c k : sProp 𝕄)]
  have h (k : Fin 4) := bigSep_univ_equiv swap fun c : Dev nD => (tok c k : sProp 𝕄)
  rw [bigSep_sep', bigSep_sep', bigSep_sep', bigSep_sep', bigSep_sep', bigSep_sep', h 0, h 1, h 3]
  exact Entails.of_eq rfl

/-- The positions, by device. -/
theorem positions : (bigSep Finset.univ fun ck : Dev nD × Fin 4 => (at₀ ck.1 ck.2 : sProp 𝕄))
    ⊢ bigSep Finset.univ fun c : Dev nD => iprop(at₀ c 0 ∗ at₀ c 1 ∗ at₀ c 2 ∗ at₀ c 3) := by
  rw [bigSep_univ_prod]
  exact bigSep_mono fun c _ => Entails.of_eq (four fun k : Fin 4 => (at₀ c k : sProp 𝕄))

/-- A device's linear part and the records make its start. -/
theorem start_of (K : Dev nD × Fin 4 → ℕ) (c : Dev nD) :
    iprop(records m K ∗ ((at₀ c 0 ∗ at₀ c 1 ∗ at₀ c 2 ∗ at₀ c 3) ∗ (tok (peer c) 0 ∗ tok (peer c) 1 ∗ tok c 2 ∗ tok (peer c) 3)) ∗ locals c)
      ⊢ G' m c := by
  unfold G'
  iintro ⟨HR, ⟨⟨A0, A1, A2, A3⟩, HT⟩, Hl⟩
  isplitr [Hl]
  · iexists K
    isplitl [HR]; · iexact HR
    isplitl [A0]; · iexact A0
    isplitl [A1]; · iexact A1
    isplitl [A2]; · iexact A2
    isplitl [A3]; · iexact A3
    iexact HT
  iexact Hl

/-- The opened cells of every device, regrouped into every device's start. -/
theorem regroup : (bigSep Finset.univ fun c : Dev nD => iprop((bigSep Finset.univ fun k : Fin 4 => opened m (c, k)) ∗ locals c) : sProp 𝕄)
    ⊢ bigSep Finset.univ (G' m) := by
  rw [bigSep_sep', ← bigSep_univ_prod (fun ck : Dev nD × Fin 4 => opened m ck)]
  unfold opened
  rw [bigSep_sep', bigSep_sep', bigSep_sep']
  iintro ⟨⟨HI, #HR, Hat, Htok⟩, Hl⟩
  ihave HK := (BI.bigSep_exists_pi Finset.univ (fun (ck : Dev nD × Fin 4) (κ : ℕ) => (cellInv ER (rd m) κ (kcell ck) : sProp 𝕄))) $$ HI
  icases HK with ⟨%K, #HI⟩
  ihave Hat' := (positions (F := F)) $$ Hat
  ihave Htok' := (deal (F := F)) $$ Htok
  iapply (bigSep_with_persistent (R := records m K) fun c _ => start_of m K c)
  isplitr
  · unfold records; isplitl; · iexact HI
    iexact HR
  have join (Φ Ψ : Dev nD → sProp 𝕄) : iprop(bigSep Finset.univ Φ ∗ bigSep Finset.univ Ψ) ⊢ bigSep Finset.univ fun c => iprop(Φ c ∗ Ψ c) :=
    Entails.of_eq (bigSep_sep' Finset.univ Φ Ψ).symm
  iapply (join _ _)
  isplitr [Hl]
  · iapply (join _ _)
    isplitl [Hat']; · iexact Hat'
    iexact Htok'
  iexact Hl

/-- The global step: every device's counters and minted state become its start. -/
theorem global_step : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => open_device m c).trans (bigSep_fupd _ _)).trans (BI.fupd_mono (regroup m))

/-! ## A device's start and end -/

/-- What its peer owes a device at launch. -/
theorem credits : (Pipeline.launchCred (fun d => O₀ d) c : sProp 𝕄)
    ⊢ iprop(cred (tallyAt (barCell c) () 1) ∗ cred (tallyAt (recvCell c) () N) ∗ cred (tallyAt (exitCell c) () 1)) := by
  unfold O₀ O₁ O₂
  rw [Pipeline.launchCred_add (fun d => tallyAt (exitCell (peer d)) () 1 + tallyAt (recvCell (peer d)) () N)
      (fun d => tallyAt (barCell (peer d)) () 1) c,
    Pipeline.launchCred_add (fun d => tallyAt (exitCell (peer d)) () 1) (fun d => tallyAt (recvCell (peer d)) () N) c]
  iintro ⟨⟨HE, HV⟩, HB⟩
  isplitl [HB]; · iapply (Pipeline.launchCred_tallyAt (.reg barS) peer peer peer_peer peer_peer () 1 c); iexact HB
  isplitl [HV]; · iapply (Pipeline.launchCred_tallyAt (.dma recvS) peer peer peer_peer peer_peer () N c); iexact HV
  iapply (Pipeline.launchCred_tallyAt (.reg exitS) peer peer peer_peer peer_peer () 1 c); iexact HE

/-- A device's memory, credits and start of the global step make the body's start. -/
theorem start_intro :
    iprop(Pipeline.unscopedRestP Pipeline.Prefetch.none cfg0.spec c (fun b => m ((c : Thread nD τ).loc b)) ∗ levAts L lv
        ∗ Pipeline.launchCred (fun d => O₀ d) c ∗ prngReg c (ρ c) ∗ G' m c)
      ⊢ |={Set.univ}=> iprop(start m c ∗ emp) := by
  rw [Pipeline.unscopedRestP_none, unscopedRest0_eq]
  iintro ⟨⟨Hx, Ho, Hr⟩, Hlev, Hcr, -, HG⟩
  ihave Hc := (credits (F := F) c) $$ Hcr
  imodintro
  unfold start G' locals
  icases HG with ⟨HG, Hl⟩
  isplitl
  · isplitl [HG]; · iexact HG
    isplitl [Hl]; · iexact Hl
    isplitl [Hc]; · iexact Hc
    isplitl [Hlev]; · iexact Hlev
    isplitl [Hx]; · iexact Hx
    isplitl [Ho]; · iexists _; iexact Ho
    iexists _; iexact Hr
  · iempintro

/-- The start and the scratch buffers are what the body asks for. -/
theorem enter :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device ends with, beside its own semaphores and scratch. -/
def finish : sProp 𝕄 := iprop(held c main_arg0 (xAt m c) ∗ held c main_v1_0 (total m c) ∗ unscopedSems0 c)

/-- What the body leaves, split into the end, the kernel's own semaphores and the scratch buffers. -/
theorem leave :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, scopedRest0_eq, ownSems0_eq]
  unfold Φ₁ scratch finish
  rw [unscopedSems0_eq]

/-- What the final memory of device `c` is known to hold. -/
def Done (s : MemSt nD τ sig (Elt F)) : Prop :=
  s.mem ((c : Thread nD τ).loc main_arg0) = xAt m c ∧ s.mem ((c : Thread nD τ).loc main_v1_0) = total m c
    ∧ ∀ sm : SemLoc sig, sm.isScoped .tc = false → s.sem ((c.tc : Thread nD τ), sm) = 0

/-- The end read off the final memory. -/
theorem read_end (s' : Phys nD τ sig (Elt F)) :
    iprop(finish m c ∗ emp ∗ SI s') ⊢ (iprop(|={Set.univ}=> (⌜Done m c s'.mem⌝ ∗ SI s')) : sProp 𝕄) := by
  unfold finish
  iintro ⟨⟨Hx, Ho, Hu⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨Buf.eq_of_forall_mem_univ hx, Buf.eq_of_forall_mem_univ ho, hu⟩
  iexact HSI

/-! ## The run -/

/-- The kernel's own semaphores are distinct, and no window's. -/
theorem ownSemFacts : Pipeline.OwnSemFacts cfg0.spec osem := by decide

set_option maxRecDepth 8000 in
/-- For any float values and from any memory with zero counters, every weakly fair execution of the whole mesh ends, and at
    every final state each device's result is its input plus its peer's, its input is unchanged, and every semaphore
    counter is zero. -/
theorem run_main : θ_run defs (onTc (τ := τ) (main (F := F))) ⟨m, fun _ => 0, ρ⟩ (fun r =>
    (∀ c : Dev nD, r.2.mem ((c : Thread nD τ).loc main_arg0) = xAt m c ∧ r.2.mem ((c : Thread nD τ).loc main_v1_0) = total m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (mint m) $$ [HX] with HG
      · iexact HX
      imodintro
      isplitl [HP] <;> iassumption)
    (hglob := global_step m)
    (hA := fun _ w => w.elim0) (hpf := fun _ k => k.elim0)
    (X := start m) (Y := finish m) (Z := fun _ => iprop(emp))
    (hX := start_intro m ρ) (hin := enter m) (hout := leave m)
    (QY := Done m)
    (hY := read_end m)
    (hQ := fun _ h hs => ⟨fun c => ⟨(h c).2.2.1, (h c).2.2.2.1⟩, sem_eq_zero hs fun c => (h c).2.2.2.2⟩)

end Cert.PairSum

end
-- ==== Proof.Value.lean ====
/-
# The value: every device's result is the reference's

The whole input of the reference has 65536 rows; a device holds its upper or its lower half, by its first mesh coordinate.
Over the extended reals a device's result is its half plus its peer's, the reference's is the upper half plus the lower
one, and addition commutes.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pointwise.Reshape
public import Idealize.ShloMosaic.Lib.Pointwise.Reduce
public import Idealize.ShloMosaic.Lib.Pointwise.ElementwiseCore

@[expose] public section

noncomputable section

namespace Cert.PairSum

open Idealize.ShloMosaic
open Idealize.ShloMosaic.TcCoe
open Cert.KernelIdeal (nD τ sig main_arg0)

/-- The shape of the whole input, and of one half of it. -/
abbrev Whole : Shape := ⟨2, ![65536, 1024]⟩
abbrev Half : Shape := ⟨2, ![32768, 1024]⟩

/-- The upper (0) or lower (1) half of a whole input. -/
def half (v : Whole.Idx → EReal) (k : Fin 2) (i : Half.Idx) : EReal :=
  v (ix2 ⟨k.val * 32768 + (i 0).val, by have h : (i 0).val < 32768 := (i 0).isLt; have := k.isLt; omega⟩ ⟨(i 1).val, (i 1).isLt⟩)

/-- Which half a device holds. -/
def side (c : Dev nD) : Fin 2 := ⟨c.val / 16, by have h : c.val < 32 := c.isLt; omega⟩

/-- The block a device holds of a whole input is its half. -/
theorem block_eq_half (v : Whole.Idx → EReal) (c : Dev nD) :
    Layout.blockN Half Whole (Layout.meshBlock [2, 4, 4] ![[0], []] c) v = half v (side c) := by
  have hc : c.val < 32 := c.isLt
  funext i
  refine congrArg v (funext fun a => Fin.ext ?_)
  rw [Layout.TilesN.idx_val]
  fin_cases a
  · show (c.val / 16 % 2 * 1 + 0) * 32768 + (i 0).val = c.val / 16 * 32768 + (i 0).val
    omega
  · show 0 * 1024 + (i 1).val = (i 1).val
    omega

/-- A device and its peer hold the two halves, in one order or the other. -/
theorem half_add_half (v : Whole.Idx → EReal) (c : Dev nD) (i : Half.Idx) :
    half v (side c) i + half v (side (peer c)) i = half v 0 i + half v 1 i := by
  have h : ∀ c : Dev nD, (side c = 0 ∧ side (peer c) = 1) ∨ (side c = 1 ∧ side (peer c) = 0) := by decide
  rcases h c with ⟨h0, h1⟩ | ⟨h0, h1⟩ <;> rw [h0, h1]
  exact add_comm _ _

/-- The input viewed as two stacked halves reads the halves. -/
theorem stacked_eq_half (v : Whole.Idx → EReal) (h : Whole.ShapeCasts ⟨3, ![2, 32768, 1024]⟩) (k : Fin 2) (i : Half.Idx) :
    shapeCast ⟨3, ![2, 32768, 1024]⟩ v h (ix3 k (i 0) (i 1)) = half v k i := by
  refine congrArg v (Shape.reshapeEquiv_eq_of_vals h _ _ _ _ (rowMajor_val2 _ 1024 rfl) (rowMajor_val3 _ (32768 * 1024) 1024 rfl rfl) ?_)
  show (k.val * 32768 + (i 0).val) * 1024 + (i 1).val = k.val * (32768 * 1024) + (i 0).val * 1024 + (i 1).val
  omega

/-- What the reference computes of a whole input: the sum of its two halves. -/
theorem reference_eq (v : Whole.Idx → EReal) (h₁ : Whole.ShapeCasts ⟨3, ![2, 32768, 1024]⟩) (h₂ : FTy.bits .bf16 < FTy.bits .f32)
    (h₃ : (⟨3, ![2, 32768, 1024]⟩ : Shape).ReducesTo [0] Half) (h₄ : 0 < (⟨0, ![]⟩ : Shape).numel) :
    (extf .f32 (truncf .bf16 (Host.reduceAdd (extf .f32 (shapeCast ⟨3, ![2, 32768, 1024]⟩ v h₁ : FVec Ideal ⟨3, ![2, 32768, 1024]⟩ .bf16) h₂)
        (constant ⟨0, ![]⟩ .f32 0x00000000#32) h₃ h₄ : FVec Ideal Half .f32) h₂) h₂ : FVec Ideal Half .f32)
      = fun i => half v 0 i + half v 1 i := by
  funext i
  refine Eq.trans (b := Ideal.hostReduceAdd h₃ (shapeCast ⟨3, ![2, 32768, 1024]⟩ v h₁) (Ideal.ofBits .f32 0x00000000#32) i) ?_ ?_
  · rw [extf_apply, truncf_apply, ValueIdx.hostReduceAdd_apply]; rfl
  rw [Ideal.hostReduceAdd_r3_a0, Fin.sum_univ_two, Ideal.ofBits_zero_f32, zero_add]
  exact congrArg₂ (· + ·) (stacked_eq_half v h₁ 0 i) (stacked_eq_half v h₁ 1 i)

/-- A device's input, read as extended reals. -/
def input (m : (ℓ : Loc nD τ sig) → Buf (Elt Ideal) ℓ) (c : Dev nD) : Half.Idx → EReal := xAt m c

/-- A device's result, over the extended reals, is its input plus its peer's. -/
theorem total_apply (m : (ℓ : Loc nD τ sig) → Buf (Elt Ideal) ℓ) (c : Dev nD) (i : Half.Idx) :
    (total m c : Half.Idx → EReal) i = input m c i + input m (peer c) i := rfl

/-- Every device's result is the sum of the two halves of the whole input the devices' inputs are the halves of. -/
theorem total_eq (m : (ℓ : Loc nD τ sig) → Buf (Elt Ideal) ℓ) (v : Whole.Idx → EReal)
    (h : ∀ c : Dev nD, m ((c.tc : Thread nD τ).loc main_arg0) = Layout.blockN Half Whole (Layout.meshBlock [2, 4, 4] ![[0], []] c) v) (c : Dev nD) :
    (total m c : Half.Idx → EReal) = fun i => half v 0 i + half v 1 i := by
  have hx (d : Dev nD) : input m d = half v (side d) := (h d).trans (block_eq_half v d)
  funext i
  rw [total_apply, hx, hx, half_add_half]

end Cert.PairSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel runs, its input ends unchanged and every counter at zero: the run at bit patterns. -/
theorem frame_kernel : Cert.quiescent_Kernel := fun m ρ _ =>
  (θ_run Cert.KernelIdeal.defs _ _).mono (fun _ h => ⟨fun c => (h.1 c).1, h.2⟩) (Cert.PairSum.run_main (F := Bits) m ρ)

/-- The same at extended reals. -/
theorem frame_kernelIdeal : Cert.quiescent_KernelIdeal := fun m ρ _ =>
  (θ_run Cert.KernelIdeal.defs _ _).mono (fun _ h => ⟨fun c => (h.1 c).1, h.2⟩) (Cert.PairSum.run_main (F := Ideal) m ρ)

/-- The reference runs and its input ends unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's result: the sum of the two halves of the whole input. -/
theorem algebraic : Cert.algebraic_KernelIdeal_ReferenceIdeal := fun m ρ m' ρ' _ hin =>
  ⟨fun i => Cert.PairSum.half (m' (((0 : Dev Cert.ReferenceIdeal.nD).tc : Thread Cert.ReferenceIdeal.nD Cert.ReferenceIdeal.τ).loc Cert.ReferenceIdeal.main_arg0)) 0 i
      + Cert.PairSum.half (m' (((0 : Dev Cert.ReferenceIdeal.nD).tc : Thread Cert.ReferenceIdeal.nD Cert.ReferenceIdeal.τ).loc Cert.ReferenceIdeal.main_arg0)) 1 i,
    (θ_run Cert.KernelIdeal.defs _ _).mono (fun _ h c => ⟨(h.1 c).2.trans (Cert.PairSum.total_eq m _ hin c), (h.1 c).1⟩)
      (Cert.PairSum.run_main (F := Ideal) m ρ),
    (θ_run Cert.ReferenceIdeal.defs _ _).mono (fun _ h => ⟨(h 0).1.trans (Cert.PairSum.reference_eq _ _ _ _ _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
